-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x4096 : Shape := ⟨2, ![16384, 4096]⟩
abbrev S64x4096 : Shape := ⟨2, ![64, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S16384x4096 .f32) (main_arg1 : FVec F S64x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S16384x4096 : Shape := ⟨2, ![16384, 4096]⟩
abbrev S64x4096 : Shape := ⟨2, ![64, 4096]⟩
abbrev S16384x8 : Shape := ⟨2, ![16384, 8]⟩
abbrev S1024x4096 : Shape := ⟨2, ![1024, 4096]⟩
abbrev S1024x8 : Shape := ⟨2, ![1024, 8]⟩
abbrev S256x4096 : Shape := ⟨2, ![256, 4096]⟩
abbrev S256x64 : Shape := ⟨2, ![256, 64]⟩
abbrev S256 : Shape := ⟨1, ![256]⟩
abbrev S256x1 : Shape := ⟨2, ![256, 1]⟩
abbrev S256x8 : Shape := ⟨2, ![256, 8]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S16384x8, .f32⟩
  | .hbm, ⟨3, _⟩ => ⟨S16384x8, .i32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S1024x8, .f32⟩
  | .local _ .vmem, ⟨4, _⟩ => ⟨S1024x8, .f32⟩
  | .local _ .vmem, ⟨5, _⟩ => ⟨S1024x8, .i32⟩
  | .local _ .vmem, ⟨6, _⟩ => ⟨S1024x8, .i32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x4096 : Shape := ⟨2, ![16384, 4096]⟩
abbrev S64x4096 : Shape := ⟨2, ![64, 4096]⟩
abbrev S4096x64 : Shape := ⟨2, ![4096, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x64, .f32⟩
  | .hbm, ⟨17, _⟩ => ⟨S16384x64, .f32⟩
  | .hbm, ⟨18, _⟩ => ⟨S16384x8, .f32⟩
  | .hbm, ⟨19, _⟩ => ⟨S16384x8, .i32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x8, .f32⟩
  | .hbm, ⟨24, _⟩ => ⟨S16384x8, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Slice.lean ====
/-
  ONE SLICE of the kernel's body: 256 rows of a block, as functions of the weight block `w` and the slice's rows `x`.

  The body treats its four slices alike. Here its text for one slice is stated once — the logits, a round (row maximum,
  least lane attaining it, that lane struck), the eight rounds, the two results — and every payload the body stores is
  shown to be it (`wts_0` … `wts_3`, `ids_0` … `ids_3`, by slice), for any float values.
-/
module

public import proofs.«01_k».proof.Proof.Gen.KernelIdeal.Value

@[expose] public section

set_option maxRecDepth 16384

noncomputable section

namespace Cert.KernelIdeal.Slice

open Cert.KernelIdeal Cert.KernelIdeal.Gen Idealize.ShloMosaic

variable {F : FTy → Type} [FloatOps F]

/-- The slice's logits: its rows against the rows of the weight block. -/
def logits (w : Vec F S64x4096 .f32) (x : Vec F S256x4096 .f32) : FVec F S256x64 .f32 :=
  matmul dot_S256x4096_S64x4096_S256x64_1_1_0_0_n_n none x w (constant S256x64 .f32 0x00000000#32)

/-- Every lane's number, as a float. -/
def lanes : FVec F S256x64 .f32 := sitofp .f32 (iota .tc S256x64 32 [1] iota_S256x64_d1_w32)

/-- The greatest value of each row. -/
def rowMax (v : FVec F S256x64 .f32) : FVec F S256x1 .f32 :=
  shapeCast S256x1 (multiReduction .maximumf [1] S256 v 0xFF800000#32 reduces_S256x64_S256 (.inl rfl) rfl) shapeCasts_S256_S256x1

/-- The least number of a lane of each row that has the greatest value. -/
def rowArg (v : FVec F S256x64 .f32) : FVec F S256x1 .f32 :=
  shapeCast S256x1 (multiReduction .minimumf [1] S256 (select (cmpf .oeq v (broadcastTo S256x64 (rowMax v) broadcasts_S256x1_S256x64))
    lanes (broadcast S256x64 (Scalar.ofBits .f32 0x42800000#32))) 0x7F800000#32 reduces_S256x64_S256 (.inl rfl) rfl) shapeCasts_S256_S256x1

/-- The values after a round: each row's selected lane is overwritten by the pattern of minus infinity. -/
def struck (v : FVec F S256x64 .f32) : FVec F S256x64 .f32 :=
  select (cmpf .oeq lanes (broadcastTo S256x64 (rowArg v) broadcasts_S256x1_S256x64)) (broadcast S256x64 (Scalar.ofBits .f32 0xFF800000#32)) v

/-- The values before each of the rounds. -/
def before (v : FVec F S256x64 .f32) : Nat → FVec F S256x64 .f32
  | 0 => v
  | k + 1 => struck (before v k)

/-- Eight columns side by side. -/
def columns (c : Fin 8 → FVec F S256x1 .f32) : FVec F S256x8 .f32 :=
  concatenate S256x8 1 (List.ofFn fun k : Fin 8 => (⟨S256x1, c k⟩ : (s : Shape) × (s.Idx → F .f32)))
    concatenates_S256x1_S256x1_S256x1_S256x1_S256x1_S256x1_S256x1_S256x1_S256x8_d1

/-- The normalised exponentials of a table of eight columns, the first column subtracted. -/
def shares (t : FVec F S256x8 .f32) : FVec F S256x8 .f32 :=
  have e : FVec F S256x8 .f32 := exp (subf t (broadcastTo S256x8 (extractStridedSlice S256x1 ![0, 0] t slices_S256x8_o0_0_S256x1) broadcasts_S256x1_S256x8))
  divf e (broadcastTo S256x8 (shapeCast S256x1 (multiReduction .add [1] S256 e 0x00000000#32 reduces_S256x8_S256 (.inl rfl) rfl) shapeCasts_S256_S256x1) broadcasts_S256x1_S256x8)

/-- The slice's first result, the weights. -/
def wts (w : Vec F S64x4096 .f32) (x : Vec F S256x4096 .f32) : FVec F S256x8 .f32 :=
  shares (columns fun k => rowMax (before (logits w x) k.val))

/-- The slice's second result, the indices. -/
def ids (w : Vec F S64x4096 .f32) (x : Vec F S256x4096 .f32) : IVec S256x8 32 :=
  fptosi 32 (columns fun k => rowArg (before (logits w x) k.val))

variable (x0 : Vec F S1024x4096 .f32) (x1 : Vec F S64x4096 .f32)

/-- The weights the body stores for slice 0. -/
theorem wts_0 : k0_pay27 (k0_pay3 (View.ld x1 r0_0) (View.ld x0 r0_1)) (k0_pay6 (View.ld x1 r0_0) (View.ld x0 r0_1)) (k0_pay9 (View.ld x1 r0_0) (View.ld x0 r0_1)) (k0_pay12 (k0_pay112 x0 x1)) (k0_pay15 (k0_pay111 x0 x1) (k0_pay112 x0 x1)) (k0_pay18 (k0_pay111 x0 x1) (k0_pay112 x0 x1)) (k0_pay113 x0 x1) (k0_pay21 (k0_pay111 x0 x1) (k0_pay112 x0 x1)) (k0_pay114 x0 x1)
    = wts (View.ld x1 r0_0) (View.ld x0 r0_1) := rfl

/-- The weights the body stores for slice 1. -/
theorem wts_1 : k0_pay55 (k0_pay115 x0 x1) (k0_pay30 (View.ld x1 r0_0) (View.ld x0 r0_3)) (k0_pay117 x0 x1) (k0_pay36 (k0_pay115 x0 x1) (k0_pay116 x0 x1) (k0_pay117 x0 x1)) (k0_pay39 (k0_pay115 x0 x1) (k0_pay116 x0 x1) (k0_pay117 x0 x1)) (k0_pay118 x0 x1) (k0_pay42 (k0_pay115 x0 x1) (k0_pay116 x0 x1) (k0_pay117 x0 x1)) (k0_pay119 x0 x1) (k0_pay120 x0 x1)
    = wts (View.ld x1 r0_0) (View.ld x0 r0_3) := rfl

/-- The weights the body stores for slice 2. -/
theorem wts_2 : k0_pay82 (k0_pay58 (View.ld x1 r0_0) (View.ld x0 r0_5)) (k0_pay61 (View.ld x1 r0_0) (View.ld x0 r0_5)) (k0_pay64 (View.ld x1 r0_0) (View.ld x0 r0_5)) (k0_pay67 (k0_pay122 x0 x1)) (k0_pay70 (k0_pay121 x0 x1) (k0_pay122 x0 x1)) (k0_pay73 (k0_pay121 x0 x1) (k0_pay122 x0 x1)) (k0_pay123 x0 x1) (k0_pay76 (k0_pay121 x0 x1) (k0_pay122 x0 x1)) (k0_pay124 x0 x1)
    = wts (View.ld x1 r0_0) (View.ld x0 r0_5) := rfl

/-- The weights the body stores for slice 3. -/
theorem wts_3 : k0_pay110 (k0_pay125 x0 x1) (k0_pay85 (View.ld x1 r0_0) (View.ld x0 r0_7)) (k0_pay127 x0 x1) (k0_pay91 (k0_pay125 x0 x1) (k0_pay126 x0 x1) (k0_pay127 x0 x1)) (k0_pay94 (k0_pay125 x0 x1) (k0_pay126 x0 x1) (k0_pay127 x0 x1)) (k0_pay128 x0 x1) (k0_pay97 (k0_pay125 x0 x1) (k0_pay126 x0 x1) (k0_pay127 x0 x1)) (k0_pay129 x0 x1) (k0_pay130 x0 x1)
    = wts (View.ld x1 r0_0) (View.ld x0 r0_7) := rfl

/-- The indices the body stores for slice 0. -/
theorem ids_0 : k0_pay26 (k0_pay111 x0 x1) (k0_pay4 (View.ld x1 r0_0) (View.ld x0 r0_1)) (k0_pay7 (View.ld x1 r0_0) (View.ld x0 r0_1)) (k0_pay10 (View.ld x1 r0_0) (View.ld x0 r0_1)) (k0_pay13 (k0_pay111 x0 x1) (k0_pay112 x0 x1)) (k0_pay16 (k0_pay111 x0 x1) (k0_pay112 x0 x1)) (k0_pay19 (k0_pay111 x0 x1) (k0_pay112 x0 x1)) (k0_pay113 x0 x1) (k0_pay22 (k0_pay111 x0 x1) (k0_pay112 x0 x1)) (k0_pay114 x0 x1)
    = ids (View.ld x1 r0_0) (View.ld x0 r0_1) := rfl

/-- The indices the body stores for slice 1. -/
theorem ids_1 : k0_pay54 (k0_pay115 x0 x1) (k0_pay31 (View.ld x1 r0_0) (View.ld x0 r0_3)) (k0_pay34 (k0_pay115 x0 x1) (k0_pay116 x0 x1) (k0_pay117 x0 x1)) (k0_pay37 (k0_pay115 x0 x1) (k0_pay116 x0 x1) (k0_pay117 x0 x1)) (k0_pay40 (k0_pay115 x0 x1) (k0_pay116 x0 x1) (k0_pay117 x0 x1)) (k0_pay118 x0 x1) (k0_pay43 (k0_pay115 x0 x1) (k0_pay116 x0 x1) (k0_pay117 x0 x1)) (k0_pay119 x0 x1) (k0_pay120 x0 x1)
    = ids (View.ld x1 r0_0) (View.ld x0 r0_3) := rfl

/-- The indices the body stores for slice 2. -/
theorem ids_2 : k0_pay81 (k0_pay121 x0 x1) (k0_pay59 (View.ld x1 r0_0) (View.ld x0 r0_5)) (k0_pay62 (View.ld x1 r0_0) (View.ld x0 r0_5)) (k0_pay65 (View.ld x1 r0_0) (View.ld x0 r0_5)) (k0_pay68 (k0_pay121 x0 x1) (k0_pay122 x0 x1)) (k0_pay71 (k0_pay121 x0 x1) (k0_pay122 x0 x1)) (k0_pay74 (k0_pay121 x0 x1) (k0_pay122 x0 x1)) (k0_pay123 x0 x1) (k0_pay77 (k0_pay121 x0 x1) (k0_pay122 x0 x1)) (k0_pay124 x0 x1)
    = ids (View.ld x1 r0_0) (View.ld x0 r0_5) := rfl

/-- The indices the body stores for slice 3. -/
theorem ids_3 : k0_pay109 (k0_pay125 x0 x1) (k0_pay86 (View.ld x1 r0_0) (View.ld x0 r0_7)) (k0_pay89 (k0_pay125 x0 x1) (k0_pay126 x0 x1) (k0_pay127 x0 x1)) (k0_pay92 (k0_pay125 x0 x1) (k0_pay126 x0 x1) (k0_pay127 x0 x1)) (k0_pay95 (k0_pay125 x0 x1) (k0_pay126 x0 x1) (k0_pay127 x0 x1)) (k0_pay128 x0 x1) (k0_pay98 (k0_pay125 x0 x1) (k0_pay126 x0 x1) (k0_pay127 x0 x1)) (k0_pay129 x0 x1) (k0_pay130 x0 x1)
    = ids (View.ld x1 r0_0) (View.ld x0 r0_7) := rfl

end Cert.KernelIdeal.Slice

end
-- ==== Proof.Rounds.lean ====
/-
  ONE ROW of the router, as mathematics over the extended reals.

  A row is a family `v : Fin n → EReal` of scores. A ROUND finds the greatest score, the least lane that has it, and
  replaces that lane's score by `⊥`. Starting from a row with no `⊥` in it, round `k` (for `k < n`) selects a lane that
  no earlier round selected, and the lanes selected by the first rounds are exactly the first positions of the STABLE
  descending sort of the row: `sortedFrom_eq_pick`.
-/
module

public import Idealize.ShloMosaic.Lib.SortPrefix
public import Mathlib.Data.EReal.Operations
public import Mathlib.Data.Finset.Lattice.Fold

@[expose] public section

noncomputable section

namespace Router

open Idealize.ShloMosaic

/-! ## A stable sort sees ties only through the order of the list -/

/-- Two comparators that agree on (later, earlier) pairs of a list sort it alike: the insertion sort only ever asks
    whether a later element goes before an earlier one. -/
theorem stableSort_eq_of_later {ι : Type} (R R' : ι → ι → Bool) :
    ∀ l : List ι, (l.Pairwise fun a b => R b a = R' b a) → stableSort R l = stableSort R' l
  | [], _ => rfl
  | a :: l, h => by
    rw [List.pairwise_cons] at h
    unfold stableSort
    rw [stableSort_eq_of_later R R' l h.2]
    exact insertBefore_congr R R' a _ fun b hb => h.1 b ((perm_stableSort R' l).mem_iff.mp hb)

/-- The same for the sorted positions of a fiber: agreement for `p < q` on "is `q` before `p`" is enough. -/
theorem sortedFrom_eq_of_later {n : Nat} (R R' : Fin n → Fin n → Bool) (h : ∀ p q, p < q → R q p = R' q p) :
    sortedFrom R = sortedFrom R' := by
  have e : sortPositions n R = sortPositions n R' :=
    stableSort_eq_of_later R R' _ ((List.pairwise_lt_finRange n).imp fun hpq => h _ _ hpq)
  funext k
  unfold sortedFrom
  rw [List.get_of_eq e]
  rfl

/-! ## A round -/

variable {n : Nat}

/-- The greatest score of a row (`⊥` for an empty one). -/
def peak (v : Fin n → EReal) : EReal := Finset.univ.fold max ⊥ v

/-- The lane a round reports, as a number: the least number of a lane that has the greatest score, and `far` if that is
    smaller still. -/
def mark (far : EReal) (v : Fin n → EReal) : EReal :=
  Finset.univ.fold min ⊤ fun j => if v j = peak v then ((j.val : ℝ) : EReal) else far

/-- The row after a round: `⊥` on the lane of the reported number. -/
def strike (far : EReal) (v : Fin n → EReal) : Fin n → EReal :=
  fun j => if ((j.val : ℝ) : EReal) = mark far v then ⊥ else v j

/-- The row before round `k`. -/
def left (far : EReal) (v : Fin n → EReal) : Nat → Fin n → EReal
  | 0 => v
  | k + 1 => strike far (left far v k)

theorem le_peak (v : Fin n → EReal) (j : Fin n) : v j ≤ peak v :=
  (Finset.le_fold_max (v j)).mpr (Or.inr ⟨j, Finset.mem_univ j, le_rfl⟩)

/-- A row that has a score above `⊥` attains its greatest score. -/
theorem exists_eq_peak (v : Fin n → EReal) (j : Fin n) (hj : v j ≠ ⊥) : ∃ i, v i = peak v := by
  rcases (Finset.le_fold_max (peak v) (f := v) (b := ⊥) (s := Finset.univ)).mp le_rfl with h | ⟨i, -, h⟩
  · exact absurd (le_bot_iff.mp ((le_peak v j).trans h)) hj
  · exact ⟨i, le_antisymm (le_peak v i) h⟩

/-- The number a round reports is the number of the least lane that has the greatest score. -/
theorem mark_eq (far : EReal) (hfar : ((n : ℝ) : EReal) ≤ far) (v : Fin n → EReal) (i : Fin n) (hi : v i = peak v)
    (hmin : ∀ j, v j = peak v → i ≤ j) : mark far v = ((i.val : ℝ) : EReal) := by
  unfold mark
  refine le_antisymm ?_ ?_
  · refine (Finset.fold_min_le _).mpr (Or.inr ⟨i, Finset.mem_univ i, ?_⟩)
    rw [if_pos hi]
  · refine (Finset.le_fold_min _).mpr ⟨le_top, fun j _ => ?_⟩
    split
    · next h => exact EReal.coe_le_coe_iff.mpr (Nat.cast_le.mpr (hmin j h))
    · refine le_trans ?_ hfar
      exact EReal.coe_le_coe_iff.mpr (Nat.cast_le.mpr i.isLt.le)

/-- Lane numbers are told apart as extended reals. -/
theorem lane_inj (i j : Fin n) : ((i.val : ℝ) : EReal) = ((j.val : ℝ) : EReal) ↔ i = j := by
  rw [EReal.coe_eq_coe_iff, Nat.cast_inj, Fin.val_inj]

/-! ## The lanes selected -/

/-- The least lane that has the greatest score (the first lane, in a row that does not attain it). -/
def best [NeZero n] (v : Fin n → EReal) : Fin n :=
  if h : (Finset.univ.filter fun j => v j = peak v).Nonempty then (Finset.univ.filter fun j => v j = peak v).min' h else 0

theorem best_spec [NeZero n] (v : Fin n → EReal) (j : Fin n) (hj : v j ≠ ⊥) :
    v (best v) = peak v ∧ ∀ i, v i = peak v → best v ≤ i := by
  obtain ⟨i, hi⟩ := exists_eq_peak v j hj
  have h : (Finset.univ.filter fun j => v j = peak v).Nonempty := ⟨i, by simp [hi]⟩
  unfold best
  rw [dif_pos h]
  refine ⟨?_, fun i hi => Finset.min'_le _ _ (by simp [hi])⟩
  have := Finset.min'_mem _ h
  simpa using this

/-- The lane that round `k` selects. -/
def pick [NeZero n] (far : EReal) (v : Fin n → EReal) (k : Nat) : Fin n := best (left far v k)

section rounds

variable [NeZero n] (far : EReal) (hfar : ((n : ℝ) : EReal) ≤ far) (v : Fin n → EReal) (hv : ∀ j, v j ≠ ⊥)
include hfar hv

/-- Before round `k < n` some lane is not yet struck: there are `n` lanes and `k` selections. -/
theorem exists_unpicked (k : Nat) (hk : k < n) : ∃ j : Fin n, ∀ i < k, pick far v i ≠ j := by
  by_contra hcon
  have hcon : ∀ j : Fin n, ∃ i < k, pick far v i = j := fun j => by
    by_contra h
    exact hcon ⟨j, fun i hi e => h ⟨i, hi, e⟩⟩
  have hsub : (Finset.univ : Finset (Fin n)) ⊆ (Finset.range k).image (pick far v) := fun j _ => by
    obtain ⟨i, hi, e⟩ := hcon j
    exact Finset.mem_image.mpr ⟨i, Finset.mem_range.mpr hi, e⟩
  have h1 := (Finset.card_le_card hsub).trans Finset.card_image_le
  rw [Finset.card_univ, Fintype.card_fin, Finset.card_range] at h1
  omega

/-- The row before round `k`: `⊥` on the lanes selected so far, the scores elsewhere. -/
theorem left_eq : ∀ k ≤ n, left far v k = fun j => if ∃ i < k, pick far v i = j then ⊥ else v j
  | 0, _ => by funext j; simp [left]
  | k + 1, hk => by
    have ih := left_eq k (by omega)
    obtain ⟨j₀, hj₀⟩ := exists_unpicked far hfar v hv k hk
    have hne : left far v k j₀ ≠ ⊥ := by
      rw [ih]; beta_reduce; rw [if_neg]
      · exact hv j₀
      · rintro ⟨i, hi, e⟩; exact hj₀ i hi e
    have hb := best_spec (left far v k) j₀ hne
    have hm : mark far (left far v k) = (((pick far v k).val : ℝ) : EReal) :=
      mark_eq far hfar _ _ hb.1 hb.2
    funext j
    show (if _ = mark far (left far v k) then ⊥ else left far v k j) = _
    rw [hm]
    by_cases hj : j = pick far v k
    · rw [if_pos (by rw [hj]), if_pos ⟨k, by omega, hj.symm⟩]
    · rw [if_neg (fun e => hj ((lane_inj _ _).mp e)), ih]
      beta_reduce
      refine if_congr ⟨?_, ?_⟩ rfl rfl
      · rintro ⟨i, hi, e⟩; exact ⟨i, by omega, e⟩
      · rintro ⟨i, hi, e⟩
        rcases Nat.lt_succ_iff_lt_or_eq.mp hi with h | h
        · exact ⟨i, h, e⟩
        · subst h; exact absurd e.symm hj

/-- What round `k < n` finds: a lane that has the greatest score left, the least such, its number being the number
    reported; no earlier round selected it, and its score is that of the original row. -/
theorem pick_spec (k : Nat) (hk : k < n) :
    mark far (left far v k) = (((pick far v k).val : ℝ) : EReal) ∧ (∀ i < k, pick far v i ≠ pick far v k)
      ∧ v (pick far v k) = peak (left far v k)
      ∧ ∀ p, (∀ i < k, pick far v i ≠ p) → v p ≤ v (pick far v k) ∧ (v p = v (pick far v k) → pick far v k ≤ p) := by
  have e := left_eq far hfar v hv k hk.le
  obtain ⟨j₀, hj₀⟩ := exists_unpicked far hfar v hv k hk
  have at_free : ∀ p, (∀ i < k, pick far v i ≠ p) → left far v k p = v p := fun p hp => by
    rw [e]; beta_reduce; rw [if_neg]
    rintro ⟨i, hi, e⟩; exact hp i hi e
  have hne : left far v k j₀ ≠ ⊥ := by rw [at_free j₀ hj₀]; exact hv j₀
  have hb : left far v k (pick far v k) = peak (left far v k) ∧ ∀ i, left far v k i = peak (left far v k) → pick far v k ≤ i :=
    best_spec (left far v k) j₀ hne
  have hfree : ∀ i < k, pick far v i ≠ pick far v k := fun i hi he => by
    have hz : left far v k (pick far v k) = ⊥ := by rw [e]; beta_reduce; rw [if_pos ⟨i, hi, he⟩]
    rw [hz] at hb
    exact hne (le_bot_iff.mp (hb.1 ▸ le_peak _ j₀))
  have hval : v (pick far v k) = peak (left far v k) := by rw [← at_free _ hfree]; exact hb.1
  refine ⟨mark_eq far hfar _ _ hb.1 hb.2, hfree, hval, fun p hp => ⟨?_, fun he => ?_⟩⟩
  · rw [hval, ← at_free p hp]; exact le_peak _ p
  · exact hb.2 p (by rw [at_free p hp, he, hval])

/-- Different rounds select different lanes. -/
theorem pick_injective (i j : Nat) (hi : i < n) (hj : j < n) (e : pick far v i = pick far v j) : i = j := by
  rcases lt_trichotomy i j with h | h | h
  · exact absurd e ((pick_spec far hfar v hv j hj).2.1 i h)
  · exact h
  · exact absurd e.symm ((pick_spec far hfar v hv i hi).2.1 j h)

/-- THE FIRST `K` POSITIONS of the stable descending sort of any row `w` that is ordered as `v` is, are the lanes the
    first `K` rounds select on `v`. -/
theorem sortedFrom_eq_pick (w : Fin n → EReal) (hw : ∀ p q, w q < w p ↔ v q < v p) (K : Nat) (hK : K ≤ n) (k : Fin K) :
    sortedFrom (fun p q : Fin n => decide (w q < w p)) (k.castLE hK) = pick far v k.val := by
  have hB : StrictTotalBefore fun p q : Fin n => decide (v q < v p) || (decide (v p = v q) && decide (p < q)) :=
    StrictTotalBefore.of_key_then_position (fun a b : EReal => decide (b < a)) v (fun a => by simp)
      (fun a b c => by simpa using fun h1 h2 => lt_trans h2 h1)
      (fun a b => by
        rcases lt_trichotomy a b with h | h | h
        · exact Or.inr (Or.inr (by simpa using h))
        · exact Or.inr (Or.inl h)
        · exact Or.inl (by simpa using h))
  have e : sortedFrom (fun p q : Fin n => decide (w q < w p))
      = sortedFrom fun p q : Fin n => decide (v q < v p) || (decide (v p = v q) && decide (p < q)) :=
    sortedFrom_eq_of_later _ _ fun p q hpq => by
      have : ¬ q < p := not_lt.mpr hpq.le
      simp [hw, this]
  have hnot : ∀ (k : Nat) (_ : k < n) (p : Fin n), (∀ i < k, pick far v i ≠ p) →
      (decide (v (pick far v k) < v p) || (decide (v p = v (pick far v k)) && decide (p < pick far v k))) = false := by
    intro k hk p hp
    obtain ⟨h1, h2⟩ := (pick_spec far hfar v hv k hk).2.2.2 p hp
    simp only [Bool.or_eq_false_iff, Bool.and_eq_false_imp, decide_eq_false_iff_not, decide_eq_true_eq, not_lt]
    exact ⟨h1, h2⟩
  rw [e]
  refine hB.sortedFrom_eq_of_prefix hK (fun i : Fin K => pick far v i.val) (fun i j h => ?_) (fun i j hij => ?_)
    (fun i p hp => ?_) k
  · exact Fin.ext (pick_injective far hfar v hv _ _ (i.isLt.trans_le hK) (j.isLt.trans_le hK) h)
  · refine hnot i.val (i.isLt.trans_le hK) _ fun l hl e => ?_
    have := pick_injective far hfar v hv _ _ (by omega) (j.isLt.trans_le hK) e
    have : i.val < j.val := hij
    omega
  · exact hnot i.val (i.isLt.trans_le hK) p fun l hl => hp ⟨l, by omega⟩

/-- Round 0 selects a lane of the row's greatest score. -/
theorem pick_zero : v (pick far v 0) = peak v :=
  (pick_spec far hfar v hv 0 (Nat.pos_of_ne_zero (NeZero.ne n))).2.2.1

end rounds

end Router

end
-- ==== Proof.Weights.lean ====
/-
  ONE ROW's weights, as mathematics over the extended reals.

  For a row `v` of FINITE scores the softmax of the row is ordered as the row is (`soft_lt_iff`), and renormalising the
  softmax over a selection of lanes is the softmax over the selection alone, whatever score `c` is subtracted in the
  exponents (`renormalise`): the denominator of the whole row and the factor `exp (c - peak)` cancel.
-/
module

public import proofs.«01_k».proof.Proof.Rounds
public import Idealize.ShloMosaic.PureOps.Ideal.Laws

@[expose] public section

noncomputable section

namespace Router

open Idealize.ShloMosaic

variable {n : Nat}

/-- Every score is a finite number. -/
def Finite (v : Fin n → EReal) : Prop := ∃ r : Fin n → ℝ, v = fun j => ((r j : ℝ) : EReal)

theorem Finite.ne_bot {v : Fin n → EReal} (h : Finite v) (j : Fin n) : v j ≠ ⊥ := by
  obtain ⟨r, rfl⟩ := h
  exact EReal.coe_ne_bot _

/-- Division of finite numbers is the real division. -/
theorem div_coe_coe (x : ℝ) {y : ℝ} (h : y ≠ 0) : Ideal.div (x : EReal) (y : EReal) = ((x / y : ℝ) : EReal) := by
  rw [Ideal.div_coe h, ← EReal.coe_mul, mul_one_div]

/-- A finite sum of finite numbers is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The softmax of a row as the reference computes it: the maximum is taken once more against `⊥`, the sum starts
    from zero. -/
def soft (v : Fin n → EReal) (j : Fin n) : EReal :=
  Ideal.div (Ideal.exp (v j - max ⊥ (peak v))) (0 + ∑ i, Ideal.exp (v i - max ⊥ (peak v)))

/-- The softmax over the selected scores `t` as the kernel computes it: the first one is subtracted. -/
def share {K : Nat} [NeZero K] (t : Fin K → EReal) (k : Fin K) : EReal :=
  Ideal.div (Ideal.exp (t k - t 0)) (∑ i, Ideal.exp (t i - t 0))

section finite

variable [NeZero n] (v : Fin n → EReal) (hv : Finite v)
include hv

/-- The greatest score of a finite row is a finite number. -/
theorem peak_coe : ∃ M : ℝ, peak v = M := by
  obtain ⟨r, e⟩ := id hv
  obtain ⟨i, hi⟩ := exists_eq_peak v 0 (hv.ne_bot 0)
  exact ⟨r i, by rw [← hi, e]⟩

/-- The softmax of a finite row, over the reals: `exp (r j)` times one positive constant. -/
theorem soft_coe : ∃ (r : Fin n → ℝ) (c : ℝ), 0 < c ∧ (v = fun j => ((r j : ℝ) : EReal)) ∧
    ∀ j, soft v j = ((Real.exp (r j) * c : ℝ) : EReal) := by
  obtain ⟨r, rfl⟩ := id hv
  obtain ⟨M, hM⟩ := peak_coe _ hv
  have hpos : 0 < ∑ i, Real.exp (r i - M) :=
    Finset.sum_pos (fun i _ => Real.exp_pos _) ⟨0, Finset.mem_univ _⟩
  refine ⟨r, Real.exp (-M) / ∑ i, Real.exp (r i - M), div_pos (Real.exp_pos _) hpos, rfl, fun j => ?_⟩
  have hexp : ∀ i, Ideal.exp ((r i : EReal) - M) = ((Real.exp (r i - M) : ℝ) : EReal) := fun i => by
    rw [← EReal.coe_sub, Ideal.exp_coe]
  unfold soft
  simp only [hM, max_eq_right bot_le, hexp, coe_sum, zero_add]
  rw [div_coe_coe _ hpos.ne', sub_eq_add_neg (r j) M, Real.exp_add, mul_div_assoc]

/-- The softmax of a finite row is ordered as the row is. -/
theorem soft_lt_iff (p q : Fin n) : soft v q < soft v p ↔ v q < v p := by
  obtain ⟨r, c, hc, rfl, h⟩ := soft_coe v hv
  rw [h, h, EReal.coe_lt_coe_iff, EReal.coe_lt_coe_iff, mul_lt_mul_iff_left₀ hc, Real.exp_lt_exp]

/-- RENORMALISING the softmax of a finite row over selected lanes `σ` is the softmax over those lanes alone. -/
theorem renormalise {K : Nat} [NeZero K] (σ : Fin K → Fin n) (k : Fin K) :
    Ideal.div (soft v (σ k)) (0 + ∑ i, soft v (σ i)) = share (fun i => v (σ i)) k := by
  obtain ⟨r, c, hc, rfl, h⟩ := soft_coe v hv
  have h1 : 0 < ∑ i, Real.exp (r (σ i)) * c :=
    Finset.sum_pos (fun i _ => mul_pos (Real.exp_pos _) hc) ⟨0, Finset.mem_univ _⟩
  have h2 : 0 < ∑ i, Real.exp (r (σ i) - r (σ 0)) :=
    Finset.sum_pos (fun i _ => Real.exp_pos _) ⟨0, Finset.mem_univ _⟩
  have hexp : ∀ i, Ideal.exp ((r (σ i) : EReal) - r (σ 0)) = ((Real.exp (r (σ i) - r (σ 0)) : ℝ) : EReal) := fun i => by
    rw [← EReal.coe_sub, Ideal.exp_coe]
  unfold share
  simp only [h, hexp, coe_sum, zero_add]
  rw [div_coe_coe _ h1.ne', div_coe_coe _ h2.ne']
  congr 1
  rw [← Finset.sum_mul, mul_div_mul_right _ _ hc.ne']
  simp only [Real.exp_sub, ← Finset.sum_div]
  rw [div_div_div_cancel_right₀ (Real.exp_ne_zero _)]

end finite

end Router

end
-- ==== Proof.SliceValue.lean ====
/-
  ONE SLICE, READ AT AN INDEX, floats being extended reals.

  Row `p` of a slice's logits is the row of dot products of row `p` of `x` with the rows of `w`. A round's row maximum,
  selected lane and struck row are `Router.peak`, `Router.mark` and `Router.strike` of that row, so the columns the eight
  rounds leave are the values and numbers of the lanes `Router.pick`. `wts_apply` and `ids_apply` state the two results.
-/
module

public import proofs.«01_k».proof.Proof.Slice
public import proofs.«01_k».proof.Proof.Rounds
public import proofs.«01_k».proof.Proof.Weights
public import Idealize.ShloMosaic.Lib.ValueIdx

@[expose] public section

set_option maxRecDepth 16384

noncomputable section

namespace Cert.KernelIdeal.Slice

open Cert.KernelIdeal Cert.KernelIdeal.Gen Idealize.ShloMosaic Idealize.ShloMosaic.ValueIdx

/-- The value the body selects in the lanes that don't attain the maximum: 64, the number of lanes. -/
abbrev far : EReal := ((64 : ℝ) : EReal)

/-- Row `p` of a table. -/
def row {a b : Nat} (v : FVec Ideal ⟨2, ![a, b]⟩ .f32) (p : Fin a) : Fin b → EReal := fun j => v (ix2 p j)

/-! ## Index maps of the operations -/

/-- A column read from a vector: entry `p` of it. -/
theorem column_apply (x : FVec Ideal S256 .f32) (p : Fin 256) :
    shapeCast S256x1 x shapeCasts_S256_S256x1 (ix2 p (0 : Fin 1)) = x (ix1 p) :=
  shapeCast_apply x _ _ _ (by rw [Shape.rowMajor_val_one, Shape.rowMajor_val_two]; simp)

/-- A column spread over 64 lanes reads the column. -/
theorem spread64_apply (x : FVec Ideal S256x1 .f32) (p : Fin 256) (j : Fin 64) :
    broadcastTo S256x64 x broadcasts_S256x1_S256x64 (ix2 p j) = x (ix2 p (0 : Fin 1)) :=
  broadcastTo_apply x _ _ _ (fun a => by match a with | ⟨0, _⟩ => rfl | ⟨1, _⟩ => rfl)

/-- A column spread over 8 columns reads the column. -/
theorem spread8_apply (x : FVec Ideal S256x1 .f32) (p : Fin 256) (k : Fin 8) :
    broadcastTo S256x8 x broadcasts_S256x1_S256x8 (ix2 p k) = x (ix2 p (0 : Fin 1)) :=
  broadcastTo_apply x _ _ _ (fun a => by match a with | ⟨0, _⟩ => rfl | ⟨1, _⟩ => rfl)

/-- Entry `k` of the row of 64 that row `p` of the result sums up. -/
theorem lift64 (p : Fin 256) (k : Fin 64) : reduces_S256x64_S256.lift (ix1 p) k = ix2 p k :=
  funext fun a => Fin.ext (by match a with | ⟨0, _⟩ => rfl | ⟨1, _⟩ => rfl)

/-- Entry `k` of the row of 8 that row `p` of the result sums up. -/
theorem lift8 (p : Fin 256) (k : Fin 8) : reduces_S256x8_S256.lift (ix1 p) k = ix2 p k :=
  funext fun a => Fin.ext (by match a with | ⟨0, _⟩ => rfl | ⟨1, _⟩ => rfl)

/-! ## Constants -/

theorem ofBits_bot : FloatOps.ofBits (F := Ideal) .f32 0xFF800000#32 = (⊥ : EReal) := by simp [Ideal.ofBits, Ideal.ieee]

theorem ofBits_top : FloatOps.ofBits (F := Ideal) .f32 0x7F800000#32 = (⊤ : EReal) := by simp [Ideal.ofBits, Ideal.ieee]

theorem ofBits_far : FloatOps.ofBits (F := Ideal) .f32 0x42800000#32 = far := by
  simp [Ideal.ofBits, Ideal.ieee, far]
  rw [← EReal.coe_mul]
  norm_num

/-! ## The operations at an index -/

/-- The product's left operand is read in the row of the result's entry. -/
theorem lhs_row (i : S256x64.Idx) (q : dot_S256x4096_S64x4096_S256x64_1_1_0_0_n_n.contr.Idx) : (dot_S256x4096_S64x4096_S256x64_1_1_0_0_n_n.lhsIdx i q 0).val = (i 0).val := by
  unfold DotDims.lhsIdx
  rw [dif_neg (show ¬(0 : Fin S256x4096.rank) ∈ dot_S256x4096_S64x4096_S256x64_1_1_0_0_n_n.lhsBatch by decide),
    dif_pos (show (0 : Fin S256x4096.rank) ∈ dot_S256x4096_S64x4096_S256x64_1_1_0_0_n_n.lhsNonContracting by decide)]
  rfl

/-- The product's right operand is read in the row numbered by the column of the result's entry. -/
theorem rhs_row (i : S256x64.Idx) (q : dot_S256x4096_S64x4096_S256x64_1_1_0_0_n_n.contr.Idx) : (dot_S256x4096_S64x4096_S256x64_1_1_0_0_n_n.rhsIdx i q 0).val = (i 1).val := by
  unfold DotDims.rhsIdx
  rw [dif_neg (show ¬(0 : Fin S64x4096.rank) ∈ dot_S256x4096_S64x4096_S256x64_1_1_0_0_n_n.rhsBatch by decide),
    dif_pos (show (0 : Fin S64x4096.rank) ∈ dot_S256x4096_S64x4096_S256x64_1_1_0_0_n_n.rhsNonContracting by decide)]
  rfl

/-- Entry (p, j) of the logits is the dot product of row `p` of `x` with row `j` of `w`. -/
theorem logits_apply (w : Vec Ideal S64x4096 .f32) (x : Vec Ideal S256x4096 .f32) (p : Fin 256) (j : Fin 64) :
    logits w x (ix2 p j) = ∑ k : Fin 4096, x (ix2 p k) * w (ix2 j k) := by
  unfold logits
  simp only [matmul]
  rw [Ideal.matmul_constant_zero_apply]
  rw [← Equiv.sum_comp (contrEquiv1 dot_S256x4096_S64x4096_S256x64_1_1_0_0_n_n 4096 rfl rfl).symm]
  refine Finset.sum_congr rfl fun k _ => ?_
  have hk := contrEquiv1_symm_val dot_S256x4096_S64x4096_S256x64_1_1_0_0_n_n 4096 rfl rfl k
  congr 1
  · refine congrArg x (funext fun a => Fin.ext ?_)
    match a with
    | ⟨0, _⟩ => exact lhs_row _ _
    | ⟨1, _⟩ => exact (dot_S256x4096_S64x4096_S256x64_1_1_0_0_n_n.lhsIdx_val_of_single rfl _ _).trans hk
  · refine congrArg w (funext fun a => Fin.ext ?_)
    match a with
    | ⟨0, _⟩ => exact rhs_row _ _
    | ⟨1, _⟩ => exact (dot_S256x4096_S64x4096_S256x64_1_1_0_0_n_n.rhsIdx_val_of_single rfl _ _).trans hk

/-- Lane `j`'s number. -/
theorem lanes_apply (p : Fin 256) (j : Fin 64) : (lanes (F := Ideal)) (ix2 p j) = ((j.val : ℝ) : EReal) := by
  unfold lanes
  rw [sitofp_apply, iota_single_apply]
  have h : (BitVec.ofNat 32 (j.val)).toInt = (j.val : Int) := by
    have := j.isLt
    rw [BitVec.toInt_eq_toNat_of_lt (by rw [BitVec.toNat_ofNat]; omega), BitVec.toNat_ofNat]; omega
  show (((BitVec.ofNat 32 j.val).toInt : ℝ) : EReal) = _
  rw [h]; simp

/-- A row's maximum. -/
theorem rowMax_apply (v : FVec Ideal S256x64 .f32) (p : Fin 256) : rowMax v (ix2 p (0 : Fin 1)) = Router.peak (row v p) := by
  unfold rowMax
  refine (column_apply _ _).trans ((Ideal.multiReduction_maximumf_single (a := (1 : Fin S256x64.rank)) v _ _ _ _ _).trans ?_)
  rw [ofBits_bot]
  exact congrArg (Finset.fold max ⊥ · Finset.univ) (funext fun k => congrArg v (lift64 p k))

/-- The least number of a lane attaining a row's maximum. -/
theorem rowArg_apply (v : FVec Ideal S256x64 .f32) (p : Fin 256) : rowArg v (ix2 p (0 : Fin 1)) = Router.mark far (row v p) := by
  unfold rowArg
  refine (column_apply _ _).trans ((multiReduction_minimumf_eq_fold (F := Ideal) (axes := [(1 : Fin S256x64.rank)]) _ _ _ _ _ _).trans
    ((reduces_S256x64_S256.fold_filter_drop_single _ _ _ _).trans ?_))
  rw [ofBits_top]
  refine congrArg (Finset.fold min ⊤ · Finset.univ) (funext fun (k : Fin 64) => ?_)
  show select _ _ _ (reduces_S256x64_S256.lift (ix1 p) k) = _
  rw [lift64, select_apply, cmpf_apply, spread64_apply, rowMax_apply, lanes_apply]
  show Scalar.select (BitVec.ofBool (decide (v (ix2 p k) = Router.peak (row v p)))) _ (FloatOps.ofBits (F := Ideal) .f32 0x42800000#32) = _
  rw [ofBits_far]
  by_cases h : row v p k = Router.peak (row v p)
  · rw [decide_eq_true (show v (ix2 p k) = Router.peak (row v p) from h), if_pos h]; rfl
  · rw [decide_eq_false (show ¬ v (ix2 p k) = Router.peak (row v p) from h), if_neg h]; rfl

/-- A row after a round: the selected lane struck. -/
theorem row_struck (v : FVec Ideal S256x64 .f32) (p : Fin 256) : row (struck v) p = Router.strike far (row v p) := by
  funext j
  show struck v (ix2 p j) = _
  unfold struck
  rw [select_apply, cmpf_apply, spread64_apply, rowArg_apply, lanes_apply]
  show Scalar.select (BitVec.ofBool (decide (((j.val : ℝ) : EReal) = Router.mark far (row v p))))
    (FloatOps.ofBits (F := Ideal) .f32 0xFF800000#32) (row v p j) = if ((j.val : ℝ) : EReal) = Router.mark far (row v p) then ⊥ else row v p j
  rw [ofBits_bot]
  by_cases h : ((j.val : ℝ) : EReal) = Router.mark far (row v p)
  · rw [if_pos h, decide_eq_true h]; rfl
  · rw [if_neg h, decide_eq_false h]; rfl

/-- A row before round `k`. -/
theorem row_before (v : FVec Ideal S256x64 .f32) (p : Fin 256) : ∀ k, row (before v k) p = Router.left far (row v p) k
  | 0 => rfl
  | k + 1 => by
    show row (struck (before v k)) p = Router.strike far (Router.left far (row v p) k)
    rw [row_struck, row_before v p k]

/-- Column `k` of eight columns side by side. -/
theorem columns_apply (c : Fin 8 → FVec Ideal S256x1 .f32) (p : Fin 256) (k : Fin 8) :
    columns c (ix2 p k) = c k (ix2 p (0 : Fin 1)) :=
  concatenate_ofFn_unit_apply (s₁ := S256x1) (1 : Fin S256x8.rank) c _ rfl rfl (ix2 p k) k rfl (ix2 p (0 : Fin 1))
    (fun b hb => by
      match b with
      | ⟨0, _⟩ => rfl
      | ⟨1, _⟩ => exact absurd rfl hb)

/-- The first column cut out of a table of eight. -/
theorem first_apply (t : FVec Ideal S256x8 .f32) (p : Fin 256) :
    extractStridedSlice S256x1 ![0, 0] t slices_S256x8_o0_0_S256x1 (ix2 p (0 : Fin 1)) = t (ix2 p (0 : Fin 8)) :=
  extractStridedSlice_apply _ t _ _ _ (fun a => by
    match a with
    | ⟨0, _⟩ => simp [ix2]
    | ⟨1, _⟩ => rfl)

/-- The normalised exponentials of a row of eight. -/
theorem shares_apply (t : FVec Ideal S256x8 .f32) (p : Fin 256) (k : Fin 8) :
    shares t (ix2 p k) = Router.share (row t p) k := by
  have he : ∀ i : Fin 8, exp (subf t (broadcastTo S256x8 (extractStridedSlice S256x1 ![0, 0] t slices_S256x8_o0_0_S256x1)
      broadcasts_S256x1_S256x8)) (ix2 p i) = Ideal.exp (row t p i - row t p 0) := fun i => by
    show Ideal.exp (t (ix2 p i) - broadcastTo S256x8 (extractStridedSlice S256x1 ![0, 0] t slices_S256x8_o0_0_S256x1)
      broadcasts_S256x1_S256x8 (ix2 p i)) = _
    rw [spread8_apply, first_apply]; rfl
  show Ideal.div (exp (subf t (broadcastTo S256x8 (extractStridedSlice S256x1 ![0, 0] t slices_S256x8_o0_0_S256x1)
      broadcasts_S256x1_S256x8)) (ix2 p k)) (broadcastTo S256x8 _ broadcasts_S256x1_S256x8 (ix2 p k)) = _
  rw [he, spread8_apply, column_apply]
  refine (congrArg (Ideal.div _) (Ideal.multiReduction_add_single (a := (1 : Fin S256x8.rank)) _ _ _ _ _ _)).trans ?_
  refine congrArg (Ideal.div _) (Finset.sum_congr rfl fun (i : Fin 8) _ => ?_)
  rw [lift8]; exact he i

/-! ## The two results -/

theorem far_le : (((64 : Nat) : ℝ) : EReal) ≤ far := le_of_eq (by simp [far])

/-- The row of logits of one row of `x`. -/
def dots (w : Vec Ideal S64x4096 .f32) (r : Fin 4096 → EReal) : Fin 64 → EReal := fun j => ∑ k : Fin 4096, r k * w (ix2 j k)

/-- What the kernel leaves in column `k` of the weights of a row with logits `l`. -/
def weight (l : Fin 64 → EReal) (k : Fin 8) : EReal := Router.share (fun i : Fin 8 => l (Router.pick far l i.val)) k

/-- What the kernel leaves in column `k` of the indices of a row with logits `l`. -/
def index (l : Fin 64 → EReal) (k : Fin 8) : BitVec 32 := BitVec.ofNat 32 (Router.pick far l k.val).val

theorem row_logits (w : Vec Ideal S64x4096 .f32) (x : Vec Ideal S256x4096 .f32) (p : Fin 256) :
    row (logits w x) p = dots w fun k => x (ix2 p k) := funext fun j => logits_apply w x p j

/-- A slice's weights, at a row whose logits are finite. -/
theorem wts_apply (w : Vec Ideal S64x4096 .f32) (x : Vec Ideal S256x4096 .f32) (p : Fin 256) (k : Fin 8)
    (h : Router.Finite (dots w fun k => x (ix2 p k))) : wts w x (ix2 p k) = weight (dots w fun k => x (ix2 p k)) k := by
  unfold wts
  rw [shares_apply]
  refine congrArg (Router.share · k) (funext fun i => ?_)
  show columns _ (ix2 p i) = _
  rw [columns_apply, rowMax_apply, row_before, row_logits]
  exact (Router.pick_spec far far_le _ h.ne_bot i.val (by omega)).2.2.1.symm

/-- The conversion of a lane's number to an integer. -/
theorem fptosi_lane (n : Fin 64) : Ideal.fptosi 32 ((n.val : ℝ) : EReal) = BitVec.ofNat 32 n.val := by
  have hn := n.isLt
  have h0 : (0 : ℝ) ≤ (n.val : ℝ) := Nat.cast_nonneg _
  rw [Ideal.fptosi, Ideal.toIntClamped_coe, if_pos h0, Int.floor_natCast,
    show max (-((2 ^ (32 - 1) : Nat) : Int)) (min (((2 ^ (32 - 1) : Nat) : Int) - 1) (n.val : Int)) = (n.val : Int) by
      norm_num; omega]
  exact BitVec.ofInt_natCast 32 n.val

/-- A slice's indices, at a row whose logits are finite. -/
theorem ids_apply (w : Vec Ideal S64x4096 .f32) (x : Vec Ideal S256x4096 .f32) (p : Fin 256) (k : Fin 8)
    (h : Router.Finite (dots w fun k => x (ix2 p k))) : ids w x (ix2 p k) = index (dots w fun k => x (ix2 p k)) k := by
  unfold ids
  show Ideal.fptosi 32 (columns (fun k => rowArg (before (logits w x) k.val)) (ix2 p k)) = _
  rw [columns_apply, rowArg_apply, row_before, row_logits,
    (Router.pick_spec far far_le _ h.ne_bot k.val (by omega)).1, fptosi_lane]
  rfl

end Cert.KernelIdeal.Slice

end
-- ==== Proof.Block.lean ====
/-
  A BLOCK AND THE WHOLE ARRAY.

  The body's four stores fill the block's 1024 rows, 256 rows each; so a row of a block's results is the row of results of
  the same row of `x` (`out_wts`, `out_ids`). The 16 blocks fill the arrays; so a row of the final arrays is the row of
  results of the same row of the argument (`final_wts`, `final_ids`). All rows of logits are supposed finite.
-/
module

public import proofs.«01_k».proof.Proof.SliceValue
public import Idealize.ShloMosaic.Lib.Pipeline.ValueKit.Geometry
public import Idealize.ShloMosaic.Lib.Pipeline.ValueKit.Tiles

@[expose] public section

set_option maxRecDepth 16384

noncomputable section

namespace Cert.KernelIdeal.Block

open Cert.KernelIdeal Cert.KernelIdeal.Gen Cert.KernelIdeal.Slice
open Idealize.ShloMosaic Idealize.ShloMosaic.TcCoe Idealize.ShloMosaic.ValueIdx Idealize.SL.Sem
open Idealize.ShloMosaic.Pipeline (Dat)

/-! ## One block -/

/-- The logits of row `r` of a table `x`. -/
def rowDots {a : Nat} (x : FVec Ideal ⟨2, ![a, 4096]⟩ .f32) (w : Vec Ideal S64x4096 .f32) (r : Fin a) : Fin 64 → EReal :=
  dots w fun k => x (ix2 r k)

/-- Row by row, the weights of a table `x`. -/
def wtsOf {a : Nat} (x : FVec Ideal ⟨2, ![a, 4096]⟩ .f32) (w : Vec Ideal S64x4096 .f32) : FVec Ideal ⟨2, ![a, 8]⟩ .f32 :=
  fun i => weight (rowDots x w (i 0)) (i 1)

/-- Row by row, the indices of a table `x`. -/
def idsOf {a : Nat} (x : FVec Ideal ⟨2, ![a, 4096]⟩ .f32) (w : Vec Ideal S64x4096 .f32) : IVec ⟨2, ![a, 8]⟩ 32 :=
  fun i => index (rowDots x w (i 0)) (i 1)

section
variable (x0 : Vec Ideal S1024x4096 .f32) (x1 : Vec Ideal S64x4096 .f32)

/-- The load of the weight block is the block. -/
theorem ld_w : View.ld x1 r0_0 = x1 := View.ld_unit_zero (funext fun a => by match a with | ⟨0, _⟩ => rfl | ⟨1, _⟩ => rfl) _ _

/-- The logits of row `p` of the slice that starts at row `o`. -/
theorem slice_dots (o : Nat) (inb) (p : Fin 256) (r : Fin 1024) (hr : r.val = o + p.val) :
    (dots x1 fun k => View.ld x0 (Rect.unit (s := S1024x4096) ![o, 0] S256x4096.size inb) (ix2 p k)) = rowDots x0 x1 r := by
  unfold rowDots
  refine congrArg (dots x1) (funext fun k => View.ld_unit_apply_of x0 _ _ inb _ _ fun a => ?_)
  match a with
  | ⟨0, _⟩ => exact hr
  | ⟨1, _⟩ => exact (Nat.zero_add _).symm

variable (h : ∀ r, Router.Finite (rowDots x0 x1 r))
include h

/-- What the slice that starts at row `o` stores of the weights is the block's weights at its rows. -/
theorem piece_wts (o : Nat) (inb) (inb') (z : (Rect.unit (s := S1024x8) ![o, 0] S256x8.size inb').shape.Idx) :
    wts (View.ld x1 r0_0) (View.ld x0 (Rect.unit (s := S1024x4096) ![o, 0] S256x4096.size inb)) z
      = wtsOf x0 x1 ((Rect.unit (s := S1024x8) ![o, 0] S256x8.size inb').emb z) := by
  obtain ⟨p, k, rfl⟩ : ∃ (p : Fin 256) (k : Fin 8), z = ix2 p k := ⟨z 0, z 1, eq_ix2 z⟩
  have hd := slice_dots x0 x1 o inb p ((Rect.unit (s := S1024x8) ![o, 0] S256x8.size inb').emb (ix2 p k) 0)
    (Rect.idx_unit_val _ _ inb' (ix2 p k) 0)
  have hk : (Rect.unit (s := S1024x8) ![o, 0] S256x8.size inb').emb (ix2 p k) 1 = k :=
    Fin.ext ((Rect.idx_unit_val _ _ inb' (ix2 p k) 1).trans (Nat.zero_add _))
  rw [ld_w, wts_apply x1 _ p k (by rw [hd]; exact h _), hd]
  unfold wtsOf
  rw [hk]

/-- What the slice that starts at row `o` stores of the indices is the block's indices at its rows. -/
theorem piece_ids (o : Nat) (inb) (inb') (z : (Rect.unit (s := S1024x8) ![o, 0] S256x8.size inb').shape.Idx) :
    ids (View.ld x1 r0_0) (View.ld x0 (Rect.unit (s := S1024x4096) ![o, 0] S256x4096.size inb)) z
      = idsOf x0 x1 ((Rect.unit (s := S1024x8) ![o, 0] S256x8.size inb').emb z) := by
  obtain ⟨p, k, rfl⟩ : ∃ (p : Fin 256) (k : Fin 8), z = ix2 p k := ⟨z 0, z 1, eq_ix2 z⟩
  have hd := slice_dots x0 x1 o inb p ((Rect.unit (s := S1024x8) ![o, 0] S256x8.size inb').emb (ix2 p k) 0)
    (Rect.idx_unit_val _ _ inb' (ix2 p k) 0)
  have hk : (Rect.unit (s := S1024x8) ![o, 0] S256x8.size inb').emb (ix2 p k) 1 = k :=
    Fin.ext ((Rect.idx_unit_val _ _ inb' (ix2 p k) 1).trans (Nat.zero_add _))
  rw [ld_w, ids_apply x1 _ p k (by rw [hd]; exact h _), hd]
  unfold idsOf
  rw [hk]

/-- The weights the body leaves in a block. -/
theorem out_wts : out0_2 x0 x1 = wtsOf x0 x1 := by
  funext y
  unfold out0_2
  rw [wts_0, wts_1, wts_2, wts_3]
  refine View.canon_apply_of_pieces (Val := Elt Ideal) (wtsOf x0 x1) _ ?_ y (cover0_2 (F := Ideal) _ _ _ _ y)
  intro pc hpc
  simp only [List.mem_cons, List.not_mem_nil, or_false] at hpc
  rcases hpc with rfl | rfl | rfl | rfl
  · exact piece_wts x0 x1 h 768 _ inb_S1024x8_S256x8_768_0
  · exact piece_wts x0 x1 h 512 _ inb_S1024x8_S256x8_512_0
  · exact piece_wts x0 x1 h 256 _ inb_S1024x8_S256x8_256_0
  · exact piece_wts x0 x1 h 0 _ inb_S1024x8_S256x8_0_0

/-- The indices the body leaves in a block. -/
theorem out_ids : out0_3 x0 x1 = idsOf x0 x1 := by
  funext y
  unfold out0_3
  rw [ids_0, ids_1, ids_2, ids_3]
  refine View.canon_apply_of_pieces (Val := Elt Ideal) (idsOf x0 x1) _ ?_ y (cover0_3 (F := Ideal) _ _ _ _ y)
  intro pc hpc
  simp only [List.mem_cons, List.not_mem_nil, or_false] at hpc
  rcases hpc with rfl | rfl | rfl | rfl
  · exact piece_ids x0 x1 h 768 _ inb_S1024x8_S256x8_768_0
  · exact piece_ids x0 x1 h 512 _ inb_S1024x8_S256x8_512_0
  · exact piece_ids x0 x1 h 256 _ inb_S1024x8_S256x8_256_0
  · exact piece_ids x0 x1 h 0 _ inb_S1024x8_S256x8_0_0

end

/-! ## The whole arrays -/

variable (m : (ℓ : Loc nD τ sig) → Buf (Elt Ideal) ℓ)

/-- Device `c`'s argument `x`. -/
abbrev argX (c : Dev nD) : FVec Ideal S16384x4096 .f32 := m ((c : Thread nD τ).loc main_arg0)

/-- Device `c`'s argument `W`. -/
abbrev argW (c : Dev nD) : Vec Ideal S64x4096 .f32 := m ((c : Thread nD τ).loc main_arg1)

/-- The block of `x` at point `t` is block row `t`. -/
theorem index0 : ∀ t : Fin cfg0.N, win0_0.index t = ![t.val, 0] := (by decide +kernel : ∀ t : Fin grid0.N, win0_0.index t = ![t.val, 0])

/-- The block of `W` is the whole of it at every point. -/
theorem index1 : ∀ t : Fin cfg0.N, win0_1.index t = ![0, 0] := (by decide +kernel : ∀ t : Fin grid0.N, win0_1.index t = ![0, 0])

/-- The block of weights at point `t` is block row `t`. -/
theorem index2 : ∀ t : Fin cfg0.N, win0_2.index t = ![t.val, 0] := (by decide +kernel : ∀ t : Fin grid0.N, win0_2.index t = ![t.val, 0])

/-- The block of indices at point `t` is block row `t`. -/
theorem index3 : ∀ t : Fin cfg0.N, win0_3.index t = ![t.val, 0] := (by decide +kernel : ∀ t : Fin grid0.N, win0_3.index t = ![t.val, 0])

/-- The block of `x` at point `t`, at an index. -/
theorem block_x (c : Dev nD) (t : Fin cfg0.N) (r : Fin 1024) (k : Fin 4096) (i : Fin 16384) (hi : i.val = t.val * 1024 + r.val) :
    (iblk m c 0 t : Vec Ideal S1024x4096 .f32) (ix2 r k) = argX m c (ix2 i k) := by
  show V m c main_arg0 ((win0_0.rect t).emb (ix2 r k)) = _
  rw [V_main_arg0]
  refine congrArg (argX m c) (funext fun a => Fin.ext ?_)
  refine (win0_0.rect_emb_val t _ a).trans ?_
  rw [index0]
  match a with
  | ⟨0, _⟩ => exact hi.symm
  | ⟨1, _⟩ => exact (by simp : (0 : Nat) * 4096 + k.val = k.val)

/-- The block of `W` at a point is `W`. -/
theorem block_w (c : Dev nD) (t : Fin cfg0.N) : (iblk m c 1 t : Vec Ideal S64x4096 .f32) = argW m c := by
  funext z
  show V m c main_arg1 ((win0_1.rect t).emb z) = _
  rw [V_main_arg1]
  refine congrArg (argW m c) (funext fun a => Fin.ext ?_)
  refine win0_1.rect_emb_val_of_index_zero t a ?_ z
  rw [index1]
  match a with
  | ⟨0, _⟩ => rfl
  | ⟨1, _⟩ => rfl

/-- The logits of row `r` of point `t`'s block are those of row `1024 t + r` of the argument. -/
theorem block_dots (c : Dev nD) (t : Fin cfg0.N) (r : Fin 1024) (i : Fin 16384) (hi : i.val = t.val * 1024 + r.val) :
    rowDots (iblk m c 0 t : Vec Ideal S1024x4096 .f32) (iblk m c 1 t) r = rowDots (argX m c) (argW m c) i := by
  unfold rowDots
  rw [block_w]
  exact congrArg (dots (argW m c)) (funext fun k => block_x m c t r k i hi)

variable (c : Dev nD) (h : ∀ r, Router.Finite (rowDots (argX m c) (argW m c) r))
include h

/-- Every row of logits of a block is finite. -/
theorem block_finite (t : Fin cfg0.N) (r : Fin 1024) :
    Router.Finite (rowDots (iblk m c 0 t : Vec Ideal S1024x4096 .f32) (iblk m c 1 t) r) := by
  have ht : t.val < 16 := lt_of_lt_of_eq t.isLt N_0
  rw [block_dots m c t r ⟨t.val * 1024 + r.val, by omega⟩ rfl]
  exact h _

/-- The array of weights after the run. -/
theorem final_wts : (dats m 0 c).arrAt 2 cfg0.N = wtsOf (argX m c) (argW m c) := by
  refine (dats m 0 c).arrAt_eq_of_cover 2 (wtsOf (argX m c) (argW m c)) (fun t _ => ?_)
    ((by decide +kernel : (cfg0.win 2).Covers).cover _ (Memref.isWhole_whole _))
  rw [Cert.KernelIdeal.Value.flushed2, out_wts _ _ (block_finite m c h t)]
  funext (y : S1024x8.Idx)
  show weight (rowDots (iblk m c 0 t : Vec Ideal S1024x4096 .f32) (iblk m c 1 t) (y 0)) (y 1)
    = weight (rowDots (argX m c) (argW m c) ((win0_2.rect t).emb y 0)) ((win0_2.rect t).emb y 1)
  have h0 : ((win0_2.rect t).emb y 0).val = t.val * 1024 + (y 0).val := by
    refine (win0_2.rect_emb_val t y 0).trans ?_
    rw [index2]; rfl
  have h1 : (win0_2.rect t).emb y 1 = y 1 := Fin.ext (win0_2.rect_emb_val_of_index_zero t 1 (by rw [index2]; rfl) y)
  rw [block_dots m c t (y 0) _ h0, h1]

/-- The array of indices after the run. -/
theorem final_ids : (dats m 0 c).arrAt 3 cfg0.N = idsOf (argX m c) (argW m c) := by
  refine (dats m 0 c).arrAt_eq_of_cover 3 (idsOf (argX m c) (argW m c)) (fun t _ => ?_)
    ((by decide +kernel : (cfg0.win 3).Covers).cover _ (Memref.isWhole_whole _))
  rw [Cert.KernelIdeal.Value.flushed3, out_ids _ _ (block_finite m c h t)]
  funext (y : S1024x8.Idx)
  show index (rowDots (iblk m c 0 t : Vec Ideal S1024x4096 .f32) (iblk m c 1 t) (y 0)) (y 1)
    = index (rowDots (argX m c) (argW m c) ((win0_3.rect t).emb y 0)) ((win0_3.rect t).emb y 1)
  have h0 : ((win0_3.rect t).emb y 0).val = t.val * 1024 + (y 0).val := by
    refine (win0_3.rect_emb_val t y 0).trans ?_
    rw [index3]; rfl
  have h1 : (win0_3.rect t).emb y 1 = y 1 := Fin.ext (win0_3.rect_emb_val_of_index_zero t 1 (by rw [index3]; rfl) y)
  rw [block_dots m c t (y 0) _ h0, h1]

end Cert.KernelIdeal.Block

end
-- ==== Proof.Reference.lean ====
/-
  THE REFERENCE, READ AT AN INDEX, floats being extended reals.

  The table the reference sorts holds, in each row, the softmax (`Router.soft`) of the row of logits. Where those are
  finite, the softmax orders the lanes as the logits do, so the stable descending sort picks the lanes `Router.pick`, and
  the renormalised picked probabilities are the kernel's weights (`Router.renormalise`).
-/
module

public import proofs.«01_k».proof.Proof.Block
public import proofs.«01_k».proof.Proof.Gen.ReferenceIdeal.Read

@[expose] public section

set_option maxRecDepth 16384

noncomputable section

namespace Cert.ReferenceIdeal.Row

open Cert.ReferenceIdeal Cert.ReferenceIdeal.Gen Cert.ReferenceIdeal.Read
open Cert.KernelIdeal.Slice (far far_le dots weight index ofBits_bot)
open Cert.KernelIdeal.Block (rowDots wtsOf idsOf)
open Idealize.ShloMosaic Idealize.ShloMosaic.ValueIdx

variable (x : FVec Ideal S16384x4096 .f32) (w : Vec Ideal S64x4096 .f32)

/-! ## The softmax -/

/-- The reference's logits. -/
theorem logits_apply (r : Fin 16384) (j : Fin 64) : val_main_v1 (F := Ideal) x w (ix2 r j) = rowDots x w r j := by
  rw [val_main_v1_apply]
  show (∑ k : Fin 4096, _) = (∑ k : Fin 4096, x (ix2 r k) * w (ix2 j k) : EReal)
  refine Finset.sum_congr rfl fun k _ => ?_
  rw [val_main_v0_apply]
  refine congrArg₂ (· * ·) (congrArg x (funext fun a => ?_)) (congrArg w (funext fun a => ?_))
  · match a with | ⟨0, _⟩ => rfl | ⟨1, _⟩ => rfl
  · match a with | ⟨0, _⟩ => rfl | ⟨1, _⟩ => rfl

/-- The reference's row maxima. -/
theorem max_apply (r : Fin 16384) : val_main_v2 (F := Ideal) x w (ix1 r) = Router.peak (rowDots x w r) := by
  have h : S16384x64.Reduces [1] S16384 := by decide
  unfold val_main_v2
  refine (Host.reduce_eq_fold_single (FloatOps.maximumf (F := Ideal) (φ := .f32)) _ _ reducesTo_S16384x64_S16384_d1 h h_S_ (ix1 r)).trans ?_
  rw [val_main_cst_apply, ofBits_bot]
  refine congrArg (Finset.fold max ⊥ · Finset.univ) (funext fun (k : Fin 64) => ?_)
  refine (congrArg (val_main_v1 (F := Ideal) x w) (funext fun a => Fin.ext ?_ : h.lift (ix1 r) k = ix2 r k)).trans (logits_apply x w r k)
  match a with | ⟨0, _⟩ => rfl | ⟨1, _⟩ => rfl

/-- The reference's exponentials. -/
theorem exp_apply (r : Fin 16384) (j : Fin 64) :
    val_main_v8 (F := Ideal) x w (ix2 r j) = Ideal.exp (rowDots x w r j - max ⊥ (Router.peak (rowDots x w r))) := by
  have hi : idx_main_v5 (idx_main_v6 (ix2 r j)) = ix1 r := funext fun a => by match a with | ⟨0, _⟩ => rfl
  rw [val_main_v8_apply, val_main_v7_apply, logits_apply, val_main_v6_apply, val_main_v5_apply, hi, val_main_v4_apply, max_apply,
    val_main_v3_apply, val_main_cst_0_apply, ofBits_bot]
  rfl

/-- The reference's probabilities. -/
theorem soft_apply (r : Fin 16384) (j : Fin 64) : val_main_v12 (F := Ideal) x w (ix2 r j) = Router.soft (rowDots x w r) j := by
  have hi : idx_main_v10 (idx_main_v11 (ix2 r j)) = ix1 r := funext fun a => by match a with | ⟨0, _⟩ => rfl
  have hk : ∀ k : Fin 64, idx_main_v9 (ix1 r) k = ix2 r k := fun k => funext fun a => by match a with | ⟨0, _⟩ => rfl | ⟨1, _⟩ => rfl
  rw [val_main_v12_apply, exp_apply, val_main_v11_apply, val_main_v10_apply, hi, val_main_v9_apply, val_main_cst_1_apply]
  simp only [hk, exp_apply, Ideal.ofBits_def, Ideal.ofBits_zero_f32]
  rfl

/-! ## The sort -/

/-- The lane a stable descending sort of the row `f` puts at `k`. -/
def lane (f : Fin 64 → EReal) (k : Fin 8) : Fin 64 := sortedFrom (fun p q : Fin 64 => decide (f q < f p)) (k.castLE (by decide))

/-- An index of the table with its column replaced by `p`. -/
theorem along_apply (r : Fin 16384) (i p : Fin 64) : Shape.Idx.along (s := S16384x64) (ix2 r i) (1 : Fin S16384x64.rank) p = ix2 r p :=
  funext fun a => by match a with | ⟨0, _⟩ => rfl | ⟨1, _⟩ => rfl

/-- The position of the table `v` that the sort's entry (r, i) is taken from. -/
theorem along_sorted (v : FVec Ideal S16384x64 .f32) (r : Fin 16384) (i : Fin 64) :
    Shape.Idx.along (s := S16384x64) (ix2 r i) (1 : Fin S16384x64.rank)
      (sortedFrom (n := 64) (fun p q => FloatOps.cmpfTotal (F := Ideal) (φ := .f32) .gt
        (v (Shape.Idx.along (s := S16384x64) (ix2 r i) (1 : Fin S16384x64.rank) p))
        (v (Shape.Idx.along (s := S16384x64) (ix2 r i) (1 : Fin S16384x64.rank) q)) == 1#1) i)
      = ix2 r (sortedFrom (fun p q : Fin 64 => decide (v (ix2 r q) < v (ix2 r p))) i) := by
  refine (along_apply r i _).trans (congrArg (ix2 r) (congrArg (fun f => sortedFrom f i) (funext fun p => funext fun q => ?_)))
  refine (congrArg₂ (fun a b : EReal => FloatOps.cmpfTotal (F := Ideal) (φ := .f32) .gt a b == 1#1)
    (congrArg v (along_apply r i p)) (congrArg v (along_apply r i q))).trans ?_
  show (BitVec.ofBool (decide (v (ix2 r q) < v (ix2 r p))) == 1#1) = _
  cases decide (v (ix2 r q) < v (ix2 r p)) <;> rfl

/-- The cut that keeps the first eight columns. -/
theorem cut_apply {α : Type} (t : S16384x64.Idx → α) (r : Fin 16384) (k : Fin 8) :
    extractStridedSlice S16384x8 (fun _ => 0) t sliceFits_S16384x64_S16384x8 (ix2 r k) = t (ix2 r (k.castLE (by decide) : Fin 64)) :=
  extractStridedSlice_apply _ t _ _ _ (fun a => by
    match a with
    | ⟨0, _⟩ => exact (Nat.zero_add _).symm
    | ⟨1, _⟩ => exact (Nat.zero_add _).symm)

/-- The eight greatest values of each row of a table. -/
theorem top_values (v : FVec Ideal S16384x64 .f32) (r : Fin 16384) (k : Fin 8) :
    (Host.topK S16384x8 1 (FloatOps.cmpfTotal .gt) v sliceFits_S16384x64_S16384x8).1 (ix2 r k)
      = v (ix2 r (lane (fun j => v (ix2 r j)) k)) := by
  unfold Host.topK
  dsimp only
  refine (cut_apply _ r k).trans ?_
  unfold Host.sort2
  exact congrArg v (along_sorted v r _)

/-- Every index's column number, as a word. -/
def column (i : S16384x64.Idx) : BitVec 32 := BitVec.ofNat 32 (i 1).val

/-- The columns of the eight greatest values of each row of a table. -/
theorem top_columns (v : FVec Ideal S16384x64 .f32) (r : Fin 16384) (k : Fin 8) :
    (Host.topK S16384x8 1 (FloatOps.cmpfTotal .gt) v sliceFits_S16384x64_S16384x8).2 (ix2 r k)
      = column (ix2 r (lane (fun j => v (ix2 r j)) k)) := by
  have hi : (fun i : S16384x64.Idx => if hd : 1 < S16384x64.rank then iotaInDim S16384x64 32 ⟨1, hd⟩ i else 0#32) = column := by
    funext i
    rw [dif_pos (show 1 < S16384x64.rank by decide)]
    rfl
  unfold Host.topK
  rw [hi]
  dsimp only
  refine (cut_apply _ r k).trans ?_
  unfold Host.sort2
  rw [dif_pos (show 1 < S16384x64.rank by decide)]
  exact congrArg column (along_sorted v r _)

/-- A row of the probabilities. -/
theorem row_soft (r : Fin 16384) : (fun j => val_main_v12 (F := Ideal) x w (ix2 r j)) = Router.soft (rowDots x w r) :=
  funext (soft_apply x w r)

/-- The sorted probabilities. -/
theorem values_apply (r : Fin 16384) (k : Fin 8) :
    val_main_values (F := Ideal) x w (ix2 r k) = Router.soft (rowDots x w r) (lane (Router.soft (rowDots x w r)) k) := by
  unfold val_main_values
  rw [top_values, row_soft, soft_apply]

/-- The sorted lanes' numbers. -/
theorem indices_apply (r : Fin 16384) (k : Fin 8) :
    val_main_indices (F := Ideal) x w (ix2 r k) = BitVec.ofNat 32 (lane (Router.soft (rowDots x w r)) k).val := by
  unfold val_main_indices
  rw [top_columns, row_soft]
  rfl

/-! ## The two results -/

variable (h : ∀ r, Router.Finite (rowDots x w r))
include h

/-- The sort picks the lanes that the kernel's rounds pick. -/
theorem lane_eq (r : Fin 16384) (k : Fin 8) : lane (Router.soft (rowDots x w r)) k = Router.pick far (rowDots x w r) k.val :=
  Router.sortedFrom_eq_pick far far_le _ (h r).ne_bot _ (Router.soft_lt_iff _ (h r)) 8 (by decide) k

/-- The reference's weights are the kernel's. -/
theorem result_wts : val_main_v16 (F := Ideal) x w = wtsOf x w := by
  funext i
  obtain ⟨r, k, rfl⟩ : ∃ (r : Fin 16384) (k : Fin 8), i = ix2 r k := ⟨i 0, i 1, eq_ix2 i⟩
  have hi : idx_main_v14 (idx_main_v15 (ix2 r k)) = ix1 r := funext fun a => by match a with | ⟨0, _⟩ => rfl
  have hk : ∀ k : Fin 8, idx_main_v13 (ix1 r) k = ix2 r k := fun k => funext fun a => by match a with | ⟨0, _⟩ => rfl | ⟨1, _⟩ => rfl
  rw [val_main_v16_apply, val_main_v15_apply, val_main_v14_apply, hi, val_main_v13_apply, val_main_cst_2_apply]
  simp only [hk, values_apply, Ideal.ofBits_def, Ideal.ofBits_zero_f32, lane_eq x w h]
  exact Router.renormalise _ (h r) (fun k : Fin 8 => Router.pick far (rowDots x w r) k.val) k

/-- The reference's indices are the kernel's. -/
theorem result_ids : val_main_indices (F := Ideal) x w = idsOf x w := by
  funext i
  obtain ⟨r, k, rfl⟩ : ∃ (r : Fin 16384) (k : Fin 8), i = ix2 r k := ⟨i 0, i 1, eq_ix2 i⟩
  rw [indices_apply, lane_eq x w h]
  rfl

end Cert.ReferenceIdeal.Row

end
-- ==== Proof.Precondition.lean ====
/-
  THE PRECONDITION, READ: every element of both arguments has an absolute value below infinity, so it is a real number,
  and so is every logit, a sum of 4096 products of them.
-/
module

public import proofs.«01_k».proof.Proof.Block
public import proofs.«01_k».proof.Pre_finite
public import Idealize.ShloMosaic.Lib.ReduceAll

@[expose] public section

set_option maxRecDepth 16384

noncomputable section

namespace Cert.Pre_finite

open Idealize.ShloMosaic Idealize.ShloMosaic.ValueIdx

/-- The shape relations the precondition states. -/
theorem facts : Facts where
  bcast_S_S16384x4096 := by decide
  reducesTo_S16384x4096_S_d0_1 := by decide
  h_S_ := by decide
  bcast_S_S64x4096 := by decide
  reducesTo_S64x4096_S_d0_1 := by decide

/-- The shape without axes has one index. -/
instance : Subsingleton S_.Idx := ⟨fun _ _ => funext fun a => a.elim0⟩

/-- A value whose absolute value compares below infinity is a real number. -/
theorem real_of_lt (a : EReal) (h : FloatOps.cmpf (F := Ideal) (φ := .f32) .olt (max a (-a)) ⊤ = 1#1) : ∃ r : ℝ, a = (r : EReal) := by
  have h' : max a (-a) < (⊤ : EReal) := by
    by_contra hn
    have e : FloatOps.cmpf (F := Ideal) (φ := .f32) .olt (max a (-a)) ⊤ = BitVec.ofBool (decide (max a (-a) < (⊤ : EReal))) := rfl
    rw [e, decide_eq_false hn] at h
    exact absurd h (by decide)
  induction a with
  | bot => simp at h'
  | top => simp at h'
  | coe r => exact ⟨r, rfl⟩

/-- The table of the comparisons, `true` throughout, makes every element of the table a real number. -/
theorem real_of_all {s : Shape} (h : S_.BroadcastsInDim s (![] : Fin 0 → Fin s.rank)) (x : FVec Ideal s .f32) (i : s.Idx)
    (e : cmpf .olt (Host.absf x) (broadcastInDim s ![] h (constant (F := Ideal) S_ .f32 0x7F800000#32)) i = 1#1) :
    ∃ r : ℝ, x i = (r : EReal) := by
  refine real_of_lt (x i) ?_
  rw [← Cert.KernelIdeal.Slice.ofBits_top]
  exact e

variable [Facts]

/-- The precondition's content: all elements of both arguments are real numbers. -/
theorem real_of_fn (x : FVec Ideal S16384x4096 .f32) (w : FVec Ideal S64x4096 .f32) (h : fn x w = fun _ => 1#1) :
    (∀ i, ∃ r : ℝ, x i = (r : EReal)) ∧ ∀ i, ∃ r : ℝ, w i = (r : EReal) := by
  have h0 := congrFun h (Shape.Idx.first Facts.h_S_)
  unfold fn at h0
  dsimp only at h0
  obtain ⟨hx, hw⟩ := IntOp.andi_eq_one.mp h0
  exact ⟨fun i => real_of_all _ x i (Host.reduce_andi_all _ _ _ _ _ hx i), fun i => real_of_all _ w i (Host.reduce_andi_all _ _ _ _ _ hw i)⟩

/-- Hence the logits are real numbers. -/
theorem logits_finite (x : FVec Ideal S16384x4096 .f32) (w : FVec Ideal S64x4096 .f32) (h : fn x w = fun _ => 1#1) (r : Fin 16384) :
    Router.Finite (Cert.KernelIdeal.Block.rowDots x w r) := by
  obtain ⟨hx, hw⟩ := real_of_fn x w h
  choose f hf using hx
  choose g hg using hw
  refine ⟨fun j => ∑ k : Fin 4096, f (ix2 r k) * g (ix2 j k), funext fun j => ?_⟩
  show (∑ k : Fin 4096, x (ix2 r k) * w (ix2 j k) : EReal) = ((∑ k : Fin 4096, f (ix2 r k) * g (ix2 j k) : ℝ) : EReal)
  rw [← Router.coe_sum]
  refine Finset.sum_congr rfl fun k _ => ?_
  rw [hf, hg, EReal.coe_mul]

end Cert.Pre_finite

end
-- ==== Proof.lean ====
/-
  `Cert.Claim`. The frames are the generated runs'. The algebraic claim: under the precondition every row of logits is
  finite (Proof/Precondition.lean), so the kernel's two arrays end at `wtsOf` and `idsOf` of its arguments
  (Proof/Block.lean), and so do the reference's two results (Proof/Reference.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Block
public import proofs.«01_k».proof.Proof.Reference
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, its arguments unchanged, every counter zero: it has none. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => (∀ c : Dev Cert.ReferenceIdeal.nD,
        r.2.mem ((c : Thread Cert.ReferenceIdeal.nD Cert.ReferenceIdeal.τ).loc Cert.ReferenceIdeal.main_arg0)
            = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1)
            = m ((c : Thread Cert.ReferenceIdeal.nD Cert.ReferenceIdeal.τ).loc Cert.ReferenceIdeal.main_arg1))
        ∧ r.2.sem = fun _ => 0 :=
  (θ_run Cert.ReferenceIdeal.defs _ _).mono (fun r h => ⟨fun c => (h c).2.2, sem_eq_zero_of_no_sems (by decide) r.2⟩)
    (Cert.ReferenceIdeal.Value.run m ρ)

/-- Both programs end with equal results: the weights and the indices of every row of `x`. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hpre hagree
  haveI : Cert.Pre_finite.Facts := Cert.Pre_finite.facts
  have hfin : ∀ c r, Router.Finite (Cert.KernelIdeal.Block.rowDots (Cert.KernelIdeal.Block.argX m c) (Cert.KernelIdeal.Block.argW m c) r) :=
    fun c r => Cert.Pre_finite.logits_finite _ _ (hpre c) r
  refine ⟨fun c => Cert.KernelIdeal.Block.wtsOf (Cert.KernelIdeal.Block.argX m c) (Cert.KernelIdeal.Block.argW m c),
    fun c => Cert.KernelIdeal.Block.idsOf (Cert.KernelIdeal.Block.argX m c) (Cert.KernelIdeal.Block.argW m c), ?_, ?_⟩
  · exact (θ_run Cert.KernelIdeal.defs _ _).mono (fun r h c =>
      ⟨(h c).1.trans (Cert.KernelIdeal.Block.final_wts m c (hfin c)),
        (h c).2.1.trans (Cert.KernelIdeal.Block.final_ids m c (hfin c)), (h c).2.2⟩) (Cert.KernelIdeal.Value.run_blocks m ρ)
  · refine (θ_run Cert.ReferenceIdeal.defs _ _).mono (fun r h c => ⟨(h c).1.trans ?_, (h c).2.1.trans ?_, (h c).2.2⟩)
      (Cert.ReferenceIdeal.Value.run m' ρ')
    · rw [(hagree c).1, (hagree c).2]
      exact (Cert.ReferenceIdeal.Read.val_main_v16_eq (F := Ideal) _ _).trans (Cert.ReferenceIdeal.Row.result_wts _ _ (hfin c))
    · rw [(hagree c).1, (hagree c).2]
      exact (Cert.ReferenceIdeal.Read.val_main_indices_eq (F := Ideal) _ _).trans (Cert.ReferenceIdeal.Row.result_ids _ _ (hfin c))

theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ, trivial, algebraic⟩

end Cert.Proof

end
